-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x8192 : Shape := ⟨2, ![256, 8192]⟩

abbrev nBuf : Space → Nat
  | .hbm => 12
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i1⟩
  | .hbm, ⟨2, _⟩ => ⟨S4096x8192, .i8⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .i8⟩
  | .local _ .vmem, ⟨3, _⟩ => ⟨S256x8192, .i8⟩
  | .local _ .vmem, ⟨4, _⟩ => ⟨S256x256, .bf16⟩
  | .local _ .vmem, ⟨5, _⟩ => ⟨S256x8192, .f32⟩
  | .local _ .vmem, ⟨6, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i1⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call1_call0_cst : Ref sig .tc := ⟨.hbm, 5, rfl⟩
abbrev main_call1_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Block.lean ====
/- What one grid point's body leaves in the result's staging buffer, written as a family over the 32 column chunks:
   chunk `k`'s product with the triangular matrix, plus the carry of the chunks before it. The generated frame states
   the same buffer as 32 separate stores over separately named payloads (`Gen.out0_3`); `out_eq` says that the two
   agree, at any float values. -/
module

public import proofs.«01_k».proof.Proof.Gen.KernelIdeal.Frame
public import Idealize.ShloMosaic.Lib.Pipeline.Value

@[expose] public section

set_option maxRecDepth 16384

noncomputable section

namespace Cert.KernelIdeal.Scan

open Cert.KernelIdeal Cert.KernelIdeal.Gen Idealize.ShloMosaic Idealize.ShloMosaic.TcCoe Idealize.SL.Sem

variable {F : FTy → Type} [FloatOps F]

/-- Column chunk `k` of a [256, 8192] block lies inside the block. -/
theorem chunk_inb (k : Fin 32) : ∀ a, (![0, 256 * k.val] : Fin 2 → Nat) a + S256x256.size a ≤ S256x8192.size a
  | ⟨0, _⟩ => by show 0 + 256 ≤ 256; omega
  | ⟨1, _⟩ => by show 256 * k.val + 256 ≤ 8192; omega

/-- Column chunk `k` of a [256, 8192] block: all its rows, columns `256 k` to `256 k + 255`. -/
abbrev chunkRect (k : Fin 32) : Rect S256x8192 :=
  Rect.unit (s := S256x8192) ![0, 256 * k.val] S256x256.size (chunk_inb k)

variable (x0 : Vec F S256x8192 .f32) (x1 : Vec F S256x8192 .i8) (x2 : Vec F S256x256 .bf16)

/-- The product of chunk `k`, masked and rounded, with the [256, 256] matrix. -/
def prod (k : Fin 32) : FVec F S256x256 .f32 :=
  matmul dot_S256x256_S256x256_S256x256_1_0_0_1_n_n none
    (truncf .bf16 (select (cmpi .ne (shapeCast S256x256 (View.ld x1 (chunkRect k)) shapeCasts_S256x256_S256x256)
        (broadcast S256x256 0#8)) (View.ld x0 (chunkRect k)) (broadcast S256x256 (Scalar.ofBits .f32 0x00000000#32)))
      bitsLt_bf16_f32)
    (shapeCast S256x256 (View.ld x2 r0_0) shapeCasts_S256x256_S256x256) (constant S256x256 .f32 0x00000000#32)

/-- The carry into chunk `k`: from zero, the last columns of the products before it, added in order. -/
def carry : (k : Nat) → k ≤ 32 → FVec F S256x1 .f32
  | 0, _ => broadcast S256x1 (Scalar.ofBits .f32 0x00000000#32)
  | k + 1, h => addf (carry k (Nat.le_of_succ_le h))
      (extractStridedSlice S256x1 ![0, 255] (prod x0 x1 x2 ⟨k, h⟩) slices_S256x256_o0_255_S256x1)

/-- What the body stores to chunk `k`: its product plus its carry, the same for every column. -/
def piece (k : Fin 32) : FVec F S256x256 .f32 :=
  addf (prod x0 x1 x2 k) (broadcastTo S256x256 (carry x0 x1 x2 k.val (Nat.le_of_lt k.isLt)) broadcasts_S256x1_S256x256)

/-- The staging buffer after the body is the 32 chunks' stores, the last chunk's first. -/
theorem out_eq : out0_3 x0 x1 x2 =
    View.canon (List.ofFn fun k : Fin 32 => (⟨chunkRect k.rev, piece x0 x1 x2 k.rev⟩ : View.Piece (Elt F) S256x8192 .f32)) := by
  unfold out0_3
  rfl

end Cert.KernelIdeal.Scan

end
-- ==== Proof.Prefix.lean ====
/- Prefix sums, with no program in sight: the host's window sum along the second axis is the prefix sum of each row, the
   product with the triangular matrix of ones is the prefix sum within a chunk, and the carry plus the prefix sum within
   a chunk is the prefix sum of the whole row. All of it over the extended reals. -/
module

public import Idealize.ShloMosaic.PureOps.Ideal
public import Idealize.ShloMosaic.Lib.ValueIdx

@[expose] public section

noncomputable section

namespace Cert.PrefixSum

open Idealize.ShloMosaic Idealize.ShloMosaic.ValueIdx
open scoped BigOperators

/-- A host window sum from zero, at an index, is the sum over the window's positions of the operand's element there, or
    of zero where the position lies in the padding. -/
theorem window_apply {s t : Shape} (window strides lo hi : Fin s.rank → Nat) (h : s.ReduceWindows window strides lo hi t)
    (x : s.Idx → EReal) (j : t.Idx) :
    Ideal.hostReduceWindowAdd window strides lo hi h x 0 j = ∑ i : (⟨s.rank, window⟩ : Shape).Idx,
      if hin : ∀ a, lo a ≤ (j (a.cast h.1.symm)).val * strides a + (i a).val ∧
          (j (a.cast h.1.symm)).val * strides a + (i a).val - lo a < s.size a
        then x (fun a => ⟨(j (a.cast h.1.symm)).val * strides a + (i a).val - lo a, (hin a).2⟩) else 0 := by
  rw [sum_idx_eq_foldl]
  rfl

/-- The window of length `n + 1` that ends at `c`, laid over a row that is padded by zeros on the left, sums the row's
    entries `0` to `c`. -/
theorem window_sum (n c : ℕ) (hc : c ≤ n) (f : ℕ → EReal) :
    ∑ b : Fin (n + 1), (if n ≤ c + b.val then f (c + b.val - n) else 0) = ∑ j ∈ Finset.range (c + 1), f j := by
  rw [Fin.sum_univ_eq_sum_range (fun b => if n ≤ c + b then f (c + b - n) else 0) (n + 1),
    show n + 1 = (n - c) + (c + 1) by omega, Finset.sum_range_add]
  rw [Finset.sum_eq_zero (s := Finset.range (n - c)) fun b hb => if_neg (by have := Finset.mem_range.mp hb; omega), zero_add]
  refine Finset.sum_congr rfl fun j hj => ?_
  rw [if_pos (by omega), show c + (n - c + j) - n = j by omega]

/-- The host's float window sum along the second axis, the window as long as the row and padded on the left by one less
    (as a running sum of each row prints), from a zero: the entry at (r, c) is the sum of row `r` up to column `c`. -/
theorem window_rows {A N n : ℕ} (hN : N = n + 1) (x : (⟨2, ![A, N]⟩ : Shape).Idx → EReal) (g : ℕ → ℕ → EReal)
    (hg : ∀ (r : Fin A) (c : Fin N), x (ix2 r c) = g r.val c.val)
    (h : (⟨2, ![A, N]⟩ : Shape).ReduceWindows (![1, N] : Fin 2 → Nat) ![1, 1] ![0, n] ![0, 0] ⟨2, ![A, N]⟩)
    (r : Fin A) (c : Fin N) :
    Ideal.hostReduceWindowAdd ![1, N] ![1, 1] ![0, n] ![0, 0] h x 0 (ix2 r c) = ∑ j ∈ Finset.range (c.val + 1), g r.val j := by
  subst hN
  have hc := c.isLt
  have hr := r.isLt
  rw [window_apply, sum_idx2, Fin.sum_univ_one, ← window_sum n c.val (by omega) (g r.val)]
  refine Finset.sum_congr rfl fun b _ => ?_
  have hb := b.isLt
  by_cases hn : n ≤ c.val + b.val
  · rw [if_pos hn, dif_pos]
    · rw [← hg r ⟨c.val + b.val - n, by omega⟩]
      congr 1
      funext a
      match a with
      | ⟨0, _⟩ => exact Fin.ext (by show r.val * 1 + 0 - 0 = r.val; omega)
      | ⟨1, _⟩ => exact Fin.ext (by show c.val * 1 + b.val - n = c.val + b.val - n; omega)
    · intro a
      match a with
      | ⟨0, _⟩ => show 0 ≤ r.val * 1 + 0 ∧ r.val * 1 + 0 - 0 < A; omega
      | ⟨1, _⟩ => show n ≤ c.val * 1 + b.val ∧ c.val * 1 + b.val - n < n + 1; omega
  · rw [if_neg hn, dif_neg]
    intro hin
    have h1 : n ≤ c.val * 1 + b.val := (hin 1).1
    omega

/-- The sum over a chunk's positions of its entries times column `q` of the triangular matrix of ones is the sum of its
    entries `0` to `q`. -/
theorem tri_sum (n q : ℕ) (hq : q < n) (f : ℕ → EReal) :
    ∑ k : Fin n, f k.val * (if k.val ≤ q then (1 : EReal) else 0) = ∑ j ∈ Finset.range (q + 1), f j := by
  rw [Fin.sum_univ_eq_sum_range (fun k => f k * (if k ≤ q then (1 : EReal) else 0)) n,
    show n = (q + 1) + (n - (q + 1)) by omega, Finset.sum_range_add]
  rw [Finset.sum_eq_zero (s := Finset.range (n - (q + 1))) fun b hb => by rw [if_neg (by omega), mul_zero], add_zero]
  refine Finset.sum_congr rfl fun j hj => ?_
  rw [if_pos (by have := Finset.mem_range.mp hj; omega), mul_one]

end Cert.PrefixSum

end
-- ==== Proof.BlockValue.lean ====
/- The body's staging buffer over the extended reals: when its first block, masked by its second, reads `g r c` at
   (r, c), and its third is the triangular matrix of ones, the buffer the body leaves holds at (r, c) the sum of
   `g r 0` to `g r c`. Chunk by chunk: the product is the prefix sum within the chunk, the carry the sum of everything
   before the chunk. -/
module

public import proofs.«01_k».proof.Proof.Block
public import proofs.«01_k».proof.Proof.Prefix
public import Idealize.ShloMosaic.Lib.MatmulPlain
public import Idealize.ShloMosaic.Lib.Pipeline.ValueKit.Tiles

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.ValueIdx
open scoped BigOperators

/-- The float word of zero bits is the extended real zero. -/
theorem zero_word : Ideal.ofBits .f32 0x00000000#32 = 0 := by simp [Ideal.ofBits, Ideal.ieee]

/-- The masked block at an index: zero where the mask byte is zero, the block's entry elsewhere. -/
def maskedAt (x0 : Vec Ideal S256x8192 .f32) (x1 : Vec Ideal S256x8192 .i8) (i : S256x8192.Idx) : EReal :=
  if x1 i = 0#8 then 0 else x0 i

/-- `x2` is the triangular matrix of ones: one on and above the diagonal, zero below. -/
def IsTri (x2 : Vec Ideal S256x256 .bf16) : Prop :=
  ∀ p q : Fin 256, x2 (ix2 p q) = if p.val ≤ q.val then (1 : EReal) else 0

/-- Position (r, q) of column chunk `k` is the block's position (r, 256 k + q). -/
theorem chunk_idx (k : Fin 32) (r q : Fin 256) (h : 256 * k.val + q.val < 8192) :
    (chunkRect k).idx (ix2 r q) = ix2 r (⟨256 * k.val + q.val, h⟩ : Fin 8192) := by
  funext a
  match a with
  | ⟨0, _⟩ => exact Fin.ext (by show 0 + 1 * r.val = r.val; omega)
  | ⟨1, _⟩ => exact Fin.ext (by show 256 * k.val + 1 * q.val = 256 * k.val + q.val; omega)

/-- The choice by "the mask byte is not zero" between an entry and zero. -/
theorem choose_eq (b : BitVec 8) (a : EReal) :
    Scalar.select (IntOp.cmpi .ne b 0#8) a (Ideal.ofBits .f32 0x00000000#32) = if b = 0#8 then 0 else a := by
  rw [zero_word]
  by_cases h : b = 0#8
  · subst h; rfl
  · rw [if_neg h]
    have hb : (b != 0#8) = true := by simpa using h
    show (if BitVec.ofBool (b != 0#8) = 1#1 then a else 0) = a
    rw [hb]
    rfl

variable (x0 : Vec Ideal S256x8192 .f32) (x1 : Vec Ideal S256x8192 .i8) (x2 : Vec Ideal S256x256 .bf16)
variable (g : ℕ → ℕ → EReal)

/-- Chunk `k`'s product at (r, q) is the sum of the chunk's masked entries of row `r`, from its first to its `q`-th. -/
theorem prod_apply (hg : ∀ (r : Fin 256) (c : Fin 8192), maskedAt x0 x1 (ix2 r c) = g r.val c.val) (ht : IsTri x2)
    (k : Fin 32) (r q : Fin 256) :
    prod x0 x1 x2 k (ix2 r q) = ∑ j ∈ Finset.range (q.val + 1), g r.val (256 * k.val + j) := by
  have hz : (![0, 0] : Fin 2 → Nat) = fun _ => 0 := funext fun a => by fin_cases a <;> rfl
  have e1 : shapeCast S256x256 (View.ld x1 (chunkRect k)) shapeCasts_S256x256_S256x256 = View.ld x1 (chunkRect k) :=
    shapeCast_self (s := S256x256) _ _
  have e2 : shapeCast S256x256 (View.ld x2 r0_0) shapeCasts_S256x256_S256x256 = x2 :=
    (shapeCast_self (s := S256x256) _ _).trans (View.ld_unit_zero hz _ _)
  unfold prod
  rw [e1, e2]
  refine (Ideal.matmul_plain_apply _ _ _ _ r q).trans ?_
  rw [constant_apply, zero_word, zero_add, ← PrefixSum.tri_sum 256 q.val q.isLt]
  refine Finset.sum_congr rfl fun p _ => ?_
  have hp := p.isLt
  have hk := k.isLt
  rw [ht p q, ← hg r ⟨256 * k.val + p.val, by omega⟩, ← chunk_idx k r p]
  exact congrArg (· * _) (choose_eq _ _)

/-- The carry into chunk `k` at row `r` is the sum of the row's masked entries before the chunk. -/
theorem carry_apply (hg : ∀ (r : Fin 256) (c : Fin 8192), maskedAt x0 x1 (ix2 r c) = g r.val c.val) (ht : IsTri x2)
    (r : Fin 256) (z : Fin 1) : ∀ (k : ℕ) (hk : k ≤ 32),
    carry x0 x1 x2 k hk (ix2 r z) = ∑ j ∈ Finset.range (256 * k), g r.val j
  | 0, _ => zero_word
  | k + 1, hk => by
    unfold carry
    rw [addf_apply, carry_apply hg ht r z k (Nat.le_of_succ_le hk),
      extractStridedSlice_apply _ _ _ _ (ix2 r (⟨255, by omega⟩ : Fin 256)) fun a => by
        match a with
        | ⟨0, _⟩ => show r.val = 0 + r.val; omega
        | ⟨1, _⟩ => show 255 = 255 + z.val; omega,
      prod_apply x0 x1 x2 g hg ht]
    exact (Finset.sum_range_add (g r.val) (256 * k) 256).symm

/-- What the body stores to chunk `k` at (r, q) is the sum of row `r`'s masked entries up to column `256 k + q`. -/
theorem piece_apply (hg : ∀ (r : Fin 256) (c : Fin 8192), maskedAt x0 x1 (ix2 r c) = g r.val c.val) (ht : IsTri x2)
    (k : Fin 32) (r q : Fin 256) :
    piece x0 x1 x2 k (ix2 r q) = ∑ j ∈ Finset.range (256 * k.val + q.val + 1), g r.val j := by
  unfold piece
  rw [addf_apply, prod_apply x0 x1 x2 g hg ht,
    broadcastTo_apply _ _ _ (ix2 r (0 : Fin 1)) fun a => by
      match a with
      | ⟨0, _⟩ => rfl
      | ⟨1, _⟩ => rfl,
    carry_apply x0 x1 x2 g hg ht, add_comm]
  exact (Finset.sum_range_add (g r.val) (256 * k.val) (q.val + 1)).symm

/-- The buffer the body leaves, at (r, c): the sum of row `r`'s masked entries up to column `c`. -/
theorem out_apply (hg : ∀ (r : Fin 256) (c : Fin 8192), maskedAt x0 x1 (ix2 r c) = g r.val c.val) (ht : IsTri x2)
    (y : S256x8192.Idx) : out0_3 x0 x1 x2 y = ∑ j ∈ Finset.range ((y 1).val + 1), g (y 0).val j := by
  rw [out_eq]
  refine View.canon_apply_of_pieces (Val := Elt Ideal) (e := .f32)
    (fun y : S256x8192.Idx => (∑ j ∈ Finset.range ((y 1).val + 1), g (y 0).val j : EReal)) _ ?_ y ?_
  · intro p hp x
    obtain ⟨k, rfl⟩ := List.mem_ofFn.mp hp
    obtain ⟨r, q, rfl⟩ : ∃ r q : Fin 256, x = ix2 r q := ⟨x 0, x 1, eq_ix2 x⟩
    refine (piece_apply x0 x1 x2 g hg ht k.rev r q).trans ?_
    have hq := q.isLt
    have hk := k.rev.isLt
    have e := chunk_idx k.rev r q (by omega)
    show _ = ∑ j ∈ Finset.range (((chunkRect k.rev).idx (ix2 r q) 1).val + 1), g ((chunkRect k.rev).idx (ix2 r q) 0).val j
    rw [e]
  · have h0 : (y 0).val < 256 := (y 0).isLt
    have h1 : (y 1).val < 8192 := (y 1).isLt
    refine ⟨_, List.mem_ofFn.mpr ⟨(⟨(y 1).val / 256, by omega⟩ : Fin 32).rev, rfl⟩, ?_⟩
    rw [Fin.rev_rev]
    refine (Rect.mem_set_unit (inb := chunk_inb ⟨(y 1).val / 256, by omega⟩)).mpr fun a => ?_
    match a with
    | ⟨0, _⟩ => show 0 ≤ (y 0).val ∧ (y 0).val < 0 + 256; omega
    | ⟨1, _⟩ => show 256 * ((y 1).val / 256) ≤ (y 1).val ∧ (y 1).val < 256 * ((y 1).val / 256) + 256; omega

end Cert.KernelIdeal.Scan

end
-- ==== Proof.Array.lean ====
/- The kernel's result array over the extended reals: each row holds the running sum of the row's masked entries. The
   arrays the launch stages are read first (the mask widened to bytes, and the triangular matrix of ones that the host
   builds by comparing two ramps), then the 16 blocks of 256 rows, then the array they tile. -/
module

public import proofs.«01_k».proof.Proof.BlockValue
public import proofs.«01_k».proof.Proof.Gen.KernelIdeal.Value
public import Idealize.ShloMosaic.Lib.StableHlo.Run

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The masked entry at row `r` and column `c`: the array's where the mask is set, zero where it is not (and zero outside
    the array). -/
def entry (x : Vec Ideal S4096x8192 .f32) (k : Vec Ideal S4096x8192 .i1) (r c : ℕ) : EReal :=
  if h : r < 4096 ∧ c < 8192 then
    if k (ix2 ⟨r, h.1⟩ ⟨c, h.2⟩) = 1#1 then x (ix2 ⟨r, h.1⟩ ⟨c, h.2⟩) else 0
  else 0

/-- The running sums of the masked rows: at (r, c), row `r`'s masked entries up to column `c`, added up. -/
def rowSums (x : Vec Ideal S4096x8192 .f32) (k : Vec Ideal S4096x8192 .i1) : Vec Ideal S4096x8192 .f32 :=
  fun i => (∑ j ∈ Finset.range ((i 1).val + 1), entry x k (i 0).val j : EReal)

section Host
variable {F : FTy → Type} [FloatOps F]
variable (m : (ℓ : Loc nD τ sig) → Buf (Elt F) ℓ)

/-- The second staged array is the mask, each bit widened to a byte. -/
theorem V_mask (c : Dev nD) :
    V m c main_v0 = extui (s := S4096x8192) 8 (m ((c : Thread nD τ).loc main_arg1)) natLt_1_8 := by
  show StableHlo.after hostOps0 (fun b => m (c, b)) (Proc.devRef .tc main_v0) = _
  unfold hostOps0
  simp only [List.flatten_cons, List.flatten_nil, List.append_nil, List.cons_append, List.nil_append]
  after_results

/-- The third staged array compares a ramp down the rows with a ramp along the columns, as ones and zeros. -/
theorem V_tri (c : Dev nD) :
    V m c main_v8 = uitofp (s := S256x256) .bf16 (cmpi .sle
      (broadcastInDim S256x256 ![0, 1] bcast_S256x1_S256x256_0_1
        (broadcastInDim S256x1 ![0] bcast_S256_S256x1_0 (iotaInDim S256 32 0)))
      (broadcastInDim S256x256 ![0, 1] bcast_S1x256_S256x256_0_1
        (broadcastInDim S1x256 ![1] bcast_S256_S1x256_1 (iotaInDim S256 32 0)))) := by
  show StableHlo.after hostOps0 (fun b => m (c, b)) (Proc.devRef .tc main_v8) = _
  unfold hostOps0
  simp only [List.flatten_cons, List.flatten_nil, List.append_nil, List.cons_append, List.nil_append]
  after_results

end Host

/-- Two positions below 256, as 32-bit words, compare signed as they compare. -/
theorem sle_words : ∀ p q : Fin 256,
    IntOp.cmpi .sle (BitVec.ofNat 32 p.val) (BitVec.ofNat 32 q.val) = if p.val ≤ q.val then 1#1 else 0#1 := by
  intro p q
  have hp := p.isLt
  have hq := q.isLt
  have e : (BitVec.ofNat 32 p.val).sle (BitVec.ofNat 32 q.val) = decide (p.val ≤ q.val) := by
    rw [BitVec.sle_eq_decide, BitVec.toInt_ofNat', BitVec.toInt_ofNat']
    congr 1
    simp only [Int.bmod]
    apply propext
    omega
  show BitVec.ofBool ((BitVec.ofNat 32 p.val).sle (BitVec.ofNat 32 q.val)) = _
  rw [e]
  by_cases h : p.val ≤ q.val <;> simp [h]

variable (m : (ℓ : Loc nD τ sig) → Buf (Elt Ideal) ℓ)

/-- So the third staged array is the triangular matrix of ones. -/
theorem V_tri_apply (c : Dev nD) : IsTri (V m c main_v8) := by
  intro p q
  rw [V_tri]
  show FloatOps.uitofp (F := Ideal) .bf16 (IntOp.cmpi .sle _ _) = _
  rw [broadcastInDim_apply _ _ _ _ (ix2 p (0 : Fin 1)) fun a => by
      match a with
      | ⟨0, _⟩ => rfl
      | ⟨1, _⟩ => rfl,
    broadcastInDim_apply _ _ _ _ (ix1 p) fun a => by
      match a with
      | ⟨0, _⟩ => rfl,
    broadcastInDim_apply _ _ _ _ (ix2 (0 : Fin 1) q) fun a => by
      match a with
      | ⟨0, _⟩ => rfl
      | ⟨1, _⟩ => rfl,
    broadcastInDim_apply _ _ _ _ (ix1 q) fun a => by
      match a with
      | ⟨0, _⟩ => rfl]
  show FloatOps.uitofp (F := Ideal) .bf16 (IntOp.cmpi .sle (BitVec.ofNat 32 p.val) (BitVec.ofNat 32 q.val)) = _
  rw [sle_words]
  by_cases h : p.val ≤ q.val
  · rw [if_pos h, if_pos h]
    show (((1#1 : BitVec 1).toNat : ℝ) : EReal) = 1
    simp
  · rw [if_neg h, if_neg h]
    show (((0#1 : BitVec 1).toNat : ℝ) : EReal) = 0
    simp

/-- Where the windows' blocks lie: point `t`'s blocks of the array, the mask and the result start at row `256 t`, column
    zero; the triangular matrix's block is the whole matrix. -/
theorem origins : ∀ t : Fin cfg0.N,
    (win0_0.index t 0 * win0_0.size 0 = 256 * t.val ∧ win0_0.index t 1 * win0_0.size 1 = 0) ∧
    (win0_1.index t 0 * win0_1.size 0 = 256 * t.val ∧ win0_1.index t 1 * win0_1.size 1 = 0) ∧
    (win0_2.index t 0 * win0_2.size 0 = 0 ∧ win0_2.index t 1 * win0_2.size 1 = 0) ∧
    (win0_3.index t 0 * win0_3.size 0 = 256 * t.val ∧ win0_3.index t 1 * win0_3.size 1 = 0) ∧
    (win0_3.xsize (grid0.coords t) 0 = 256 ∧ win0_3.xsize (grid0.coords t) 1 = 8192) :=
  (by decide +kernel : ∀ t : Fin grid0.N, _)

/-- There are 16 points. -/
theorem point_lt (t : Fin cfg0.N) : t.val < 16 := by
  have h := t.isLt
  have e : cfg0.N = 16 := N_0
  omega

/-- Point `t`'s block of the array at (r, q) is the array at (256 t + r, q). -/
theorem iblk0_apply (c : Dev nD) (t : Fin cfg0.N) (r : Fin 256) (q : Fin 8192) (h : 256 * t.val + r.val < 4096) :
    (iblk m c 0 t : Vec Ideal S256x8192 .f32) (ix2 r q)
      = m ((c : Thread nD τ).loc main_arg0) (ix2 (⟨256 * t.val + r.val, h⟩ : Fin 4096) q) := by
  rw [← V_main_arg0 m c]
  refine congrArg (V m c main_arg0) (funext fun a => ?_)
  have o := (origins t).1
  match a with
  | ⟨0, _⟩ => exact Fin.ext (by
      show win0_0.index t 0 * win0_0.size 0 + 1 * r.val = 256 * t.val + r.val
      rw [o.1]; omega)
  | ⟨1, _⟩ => exact Fin.ext (by
      show win0_0.index t 1 * win0_0.size 1 + 1 * q.val = q.val
      rw [o.2]; omega)

/-- Point `t`'s block of the mask bytes at (r, q) is the mask bit at (256 t + r, q), widened. -/
theorem iblk1_apply (c : Dev nD) (t : Fin cfg0.N) (r : Fin 256) (q : Fin 8192) (h : 256 * t.val + r.val < 4096) :
    (iblk m c 1 t : Vec Ideal S256x8192 .i8) (ix2 r q)
      = (m ((c : Thread nD τ).loc main_arg1) (ix2 (⟨256 * t.val + r.val, h⟩ : Fin 4096) q) : BitVec 1).setWidth 8 := by
  refine Eq.trans ?_ (congrFun (V_mask m c) (ix2 (⟨256 * t.val + r.val, h⟩ : Fin 4096) q))
  refine congrArg (V m c main_v0) (funext fun a => ?_)
  have o := (origins t).2.1
  match a with
  | ⟨0, _⟩ => exact Fin.ext (by
      show win0_1.index t 0 * win0_1.size 0 + 1 * r.val = 256 * t.val + r.val
      rw [o.1]; omega)
  | ⟨1, _⟩ => exact Fin.ext (by
      show win0_1.index t 1 * win0_1.size 1 + 1 * q.val = q.val
      rw [o.2]; omega)

/-- Point `t`'s block of the third staged array is the triangular matrix of ones. -/
theorem iblk2_tri (c : Dev nD) (t : Fin cfg0.N) : IsTri (iblk m c 2 t) := by
  intro p q
  rw [← V_tri_apply m c p q]
  refine congrArg (V m c main_v8) (funext fun a => ?_)
  have o := (origins t).2.2.1
  match a with
  | ⟨0, _⟩ => exact Fin.ext (by
      show win0_2.index t 0 * win0_2.size 0 + 1 * p.val = p.val
      rw [o.1]; omega)
  | ⟨1, _⟩ => exact Fin.ext (by
      show win0_2.index t 1 * win0_2.size 1 + 1 * q.val = q.val
      rw [o.2]; omega)

/-- A mask bit widened to a byte is zero exactly when the bit is not set. -/
theorem widen_eq_zero (b : BitVec 1) (a : EReal) :
    (if b.setWidth 8 = 0#8 then 0 else a) = if b = 1#1 then a else 0 := by
  by_cases h : b = 1#1
  · subst h; rfl
  · rw [eq_zero_of_ne_one h]; rfl

/-- Point `t`'s masked block at (r, q) is the masked entry at (256 t + r, q). -/
theorem masked_iblk (c : Dev nD) (t : Fin cfg0.N) (r : Fin 256) (q : Fin 8192) :
    maskedAt (iblk m c 0 t) (iblk m c 1 t) (ix2 r q)
      = entry (m ((c : Thread nD τ).loc main_arg0)) (m ((c : Thread nD τ).loc main_arg1)) (256 * t.val + r.val) q.val := by
  have hr := r.isLt
  have hq := q.isLt
  have ht := point_lt t
  have h : 256 * t.val + r.val < 4096 := by omega
  unfold maskedAt entry
  rw [dif_pos ⟨h, hq⟩, iblk0_apply m c t r q h, iblk1_apply m c t r q h]
  exact widen_eq_zero _ _

/-- The kernel's result array over device `c`'s arguments: the running sums of its masked rows. -/
abbrev result (c : Dev nD) : Buf (Elt Ideal) ((c : Thread nD τ).loc main_v9) :=
  rowSums (m ((c : Thread nD τ).loc main_arg0)) (m ((c : Thread nD τ).loc main_arg1))

/-- What point `t` writes back is block `t` of the running sums. -/
theorem flushed_eq (c : Dev nD) (t : Fin cfg0.N) :
    (dats m 0 c).flushed 3 t = (win0_3.blk t).view.read (Elt Ideal) (result m c) := by
  rw [Value.flushed3]
  funext y
  refine (out_apply (iblk m c 0 t) (iblk m c 1 t) (iblk m c 2 t) (fun r j => entry (m ((c : Thread nD τ).loc main_arg0))
    (m ((c : Thread nD τ).loc main_arg1)) (256 * t.val + r) j) (masked_iblk m c t) (iblk2_tri m c t) y).trans ?_
  have o := (origins t).2.2.2.1
  have e0 : (((win0_3.blk t).view.emb y) 0).val = 256 * t.val + (y 0).val := by
    show win0_3.index t 0 * win0_3.size 0 + 1 * (y 0).val = _
    rw [o.1]; omega
  have e1 : (((win0_3.blk t).view.emb y) 1).val = (y 1).val := by
    show win0_3.index t 1 * win0_3.size 1 + 1 * (y 1).val = _
    rw [o.2]; omega
  show _ = ∑ j ∈ Finset.range ((((win0_3.blk t).view.emb y) 1).val + 1), entry _ _ (((win0_3.blk t).view.emb y) 0).val j
  rw [e0, e1]

/-- An index of the result array is in point `t`'s block when its row is among rows `256 t` to `256 t + 255`. -/
theorem mem_blk (t : Fin cfg0.N) (i : S4096x8192.Idx) (h0 : 256 * t.val ≤ (i 0).val) (h1 : (i 0).val < 256 * t.val + 256) :
    i ∈ ((cfg0.win 3).blk t).view.set := by
  show i ∈ ((View.whole main_v9).slice (win0_3.rect t)).set
  rw [View.set_slice_whole]
  have hc : (i 1).val < 8192 := (i 1).isLt
  have o := (origins t).2.2.2
  refine Rect.mem_set_unit.mpr fun a => ?_
  match a with
  | ⟨0, _⟩ =>
    show win0_3.index t 0 * win0_3.size 0 ≤ (i 0).val ∧
      (i 0).val < win0_3.index t 0 * win0_3.size 0 + win0_3.xsize (grid0.coords t) 0
    rw [o.1.1, o.2.1]; exact ⟨h0, h1⟩
  | ⟨1, _⟩ =>
    show win0_3.index t 1 * win0_3.size 1 ≤ (i 1).val ∧
      (i 1).val < win0_3.index t 1 * win0_3.size 1 + win0_3.xsize (grid0.coords t) 1
    rw [o.1.2, o.2.2]; omega

/-- The 16 blocks of 256 rows tile the 4096 rows. -/
theorem cover (i : S4096x8192.Idx) :
    ∃ t : Fin cfg0.N, (cfg0.win 3).flush t = true ∧ i ∈ ((cfg0.win 3).blk t).view.set := by
  have h0 : (i 0).val < 4096 := (i 0).isLt
  have hN : cfg0.N = 16 := N_0
  have ht : (i 0).val / 256 < cfg0.N := by omega
  exact ⟨⟨(i 0).val / 256, ht⟩, flush0_3 _, mem_blk _ i (by dsimp only; omega) (by dsimp only; omega)⟩

/-- So the result array ends holding the running sums. -/
theorem final (c : Dev nD) : (dats m 0 c).arrAt 3 cfg0.N = result m c :=
  (dats m 0 c).arrAt_eq_of_cover 3 (result m c) (fun t _ => flushed_eq m c t) cover

/-- The kernel's run: the result array at the running sums of the masked rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Scan

end
-- ==== Proof.Reference.lean ====
/- The reference over the extended reals: the window sum it prints for a running sum along the rows, of the array with
   zeros where the mask is not set, is the function the kernel's result array was shown to hold. -/
module

public import proofs.«01_k».proof.Proof.Array
public import proofs.«01_k».proof.Proof.Gen.ReferenceIdeal.Run

@[expose] public section

set_option maxRecDepth 16384

noncomputable section

namespace Cert.ReferenceIdeal.Scan

open Cert.ReferenceIdeal Cert.ReferenceIdeal.Gen Idealize.ShloMosaic Idealize.ShloMosaic.TcCoe Idealize.SL.Sem
open Idealize.ShloMosaic.ValueIdx
open Cert.KernelIdeal.Scan (entry rowSums zero_word)
open scoped BigOperators

/-- The reference's masked array, zeros where the mask is not set, at (r, c). -/
theorem masked_apply (x : Vec Ideal S4096x8192 .f32) (k : Vec Ideal S4096x8192 .i1) (r : Fin 4096) (c : Fin 8192) :
    select k x (broadcastInDim S4096x8192 ![] bcast_S_S4096x8192 (constant (F := Ideal) S_ .f32 0x00000000#32)) (ix2 r c)
      = entry x k r.val c.val := by
  unfold entry
  rw [dif_pos ⟨r.isLt, c.isLt⟩]
  show Scalar.select (k (ix2 r c)) (x (ix2 r c)) (Ideal.ofBits .f32 0x00000000#32) = _
  rw [zero_word]
  rfl

/-- The reference's result is the running sums of the masked rows. -/
theorem result_eq (x : Vec Ideal S4096x8192 .f32) (k : Vec Ideal S4096x8192 .i1) :
    Host.reduceWindowAdd ![1, 8192] ![1, 1] ![0, 8191] ![0, 0]
      (select k x (broadcastInDim S4096x8192 ![] bcast_S_S4096x8192 (constant (F := Ideal) S_ .f32 0x00000000#32)))
      (broadcastInDim S_ ![] bcast_S_S_ (constant (F := Ideal) S_ .f32 0x00000000#32))
      reduceWindows_S4096x8192_S4096x8192_w1s1p0_0_w8192s1p8191_0 h_S_ = rowSums x k := by
  funext i
  obtain ⟨r, c, rfl⟩ : ∃ (r : Fin 4096) (c : Fin 8192), i = ix2 r c := ⟨i 0, i 1, eq_ix2 i⟩
  have e := PrefixSum.window_rows (A := 4096) (N := 8192) (n := 8191) (by norm_num) _ (entry x k) (masked_apply x k)
    reduceWindows_S4096x8192_S4096x8192_w1s1p0_0_w8192s1p8191_0 r c
  have z : (broadcastInDim S_ ![] bcast_S_S_ (constant (F := Ideal) S_ .f32 0x00000000#32)) (Shape.Idx.first h_S_) = 0 :=
    zero_word
  unfold Host.reduceWindowAdd
  rw [z, Ideal.hostReduceWindowAdd_def, e]
  unfold rowSums
  rfl

end Cert.ReferenceIdeal.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to its end, leaves its arguments as they were and every counter at zero. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- So does the reference, which declares no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the two arguments, the kernel and the reference end with the same array over the extended
    reals: the running sums of the masked rows. -/
theorem algebraic : Cert.algebraic_KernelIdeal_ReferenceIdeal := by
  intro m ρ m' ρ' _ hagree
  refine ⟨Cert.KernelIdeal.Scan.result m, Cert.KernelIdeal.Scan.run m ρ,
    (θ_run Cert.ReferenceIdeal.defs _ _).mono (fun r h c => ⟨?_, (h c).2⟩)
      (Cert.ReferenceIdeal.Value.run (F := Ideal) m' ρ')⟩
  refine (h c).1.trans ((Cert.ReferenceIdeal.Scan.result_eq _ _).trans ?_)
  rw [(hagree c).1, (hagree c).2]

/-- Everything claimed. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
